-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1792x14336 : Shape := ⟨2, ![1792, 14336]⟩
abbrev S28x14336 : Shape := ⟨2, ![28, 14336]⟩
abbrev S16 : Shape := ⟨1, ![16]⟩
abbrev S16x1 : Shape := ⟨2, ![16, 1]⟩
abbrev S16x128 : Shape := ⟨2, ![16, 128]⟩
abbrev S28x1x14336 : Shape := ⟨3, ![28, 1, 14336]⟩
abbrev S2x1792x14336 : Shape := ⟨3, ![2, 1792, 14336]⟩
abbrev S128x1024 : Shape := ⟨2, ![128, 1024]⟩
abbrev S1x1x1024 : Shape := ⟨3, ![1, 1, 1024]⟩
abbrev S2x128x1024 : Shape := ⟨3, ![2, 128, 1024]⟩
abbrev S1x1x128 : Shape := ⟨3, ![1, 1, 128]⟩
abbrev S1x128 : Shape := ⟨2, ![1, 128]⟩
abbrev S32x128 : Shape := ⟨2, ![32, 128]⟩
abbrev S16x128x1 : Shape := ⟨3, ![16, 128, 1]⟩
abbrev S1x16x128 : Shape := ⟨3, ![1, 16, 128]⟩
abbrev S3584x14336 : Shape := ⟨2, ![3584, 14336]⟩

abbrev nBuf : Space → Nat
  | .hbm => 8
  | .vmem => 9
  | .smem => 0
  | _ => 0

abbrev bufTy : (tb : Table) → Fin (tcTables nBuf tb) → BufTy
  | .hbm, ⟨0, _⟩ => ⟨S1792x14336, .i8⟩
  | .hbm, ⟨1, _⟩ => ⟨S28x14336, .bf16⟩
  | .hbm, ⟨2, _⟩ => ⟨S16, .bf16⟩
  | .hbm, ⟨3, _⟩ => ⟨S16x1, .bf16⟩
  | .hbm, ⟨4, _⟩ => ⟨S16x128, .bf16⟩
  | .hbm, ⟨5, _⟩ => ⟨S28x1x14336, .bf16⟩
  | .hbm, ⟨6, _⟩ => ⟨S2x1792x14336, .bf16⟩
  | .hbm, ⟨7, _⟩ => ⟨S3584x14336, .bf16⟩
  | .local _ .vmem, ⟨0, _⟩ => ⟨S128x1024, .i8⟩
  | .local _ .vmem, ⟨1, _⟩ => ⟨S128x1024, .i8⟩
  | .local _ .vmem, ⟨2, _⟩ => ⟨S1x1x1024, .bf16⟩
  | .local _ .vmem, ⟨3, _⟩ => ⟨S1x1x1024, .bf16⟩
  | .local _ .vmem, ⟨4, _⟩ => ⟨S1x1x1024, .bf16⟩
  | .local _ .vmem, ⟨5, _⟩ => ⟨S1x1x1024, .bf16⟩
  | .local _ .vmem, ⟨6, _⟩ => ⟨S16x128, .bf16⟩
  | .local _ .vmem, ⟨7, _⟩ => ⟨S2x128x1024, .bf16⟩
  | .local _ .vmem, ⟨8, _⟩ => ⟨S2x128x1024, .bf16⟩
  | _, _ => ⟨S1792x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![14, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  let c0_i32_0 : BitVec 32 := 0#32
  ![v0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S128x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1792x14336 : Shape := ⟨2, ![1792, 14336]⟩
abbrev S28x14336 : Shape := ⟨2, ![28, 14336]⟩
abbrev S16 : Shape := ⟨1, ![16]⟩
abbrev S2 : Shape := ⟨1, ![2]⟩
abbrev S2x1x1 : Shape := ⟨3, ![2, 1, 1]⟩
abbrev S1x1792x14336 : Shape := ⟨3, ![1, 1792, 14336]⟩
abbrev S2x1792x14336 : Shape := ⟨3, ![2, 1792, 14336]⟩
abbrev S_ : Shape := ⟨0, ![]⟩
abbrev S1 : Shape := ⟨1, ![1]⟩
abbrev S28x128x14336 : Shape := ⟨3, ![28, 128, 14336]⟩
abbrev S28x1x14336 : Shape := ⟨3, ![28, 1, 14336]⟩
abbrev S3584x14336 : Shape := ⟨2, ![3584, 14336]⟩

abbrev nBuf : Space → Nat
  | .hbm => 105
  | .vmem => 0
  | .smem => 0
  | _ => 0

abbrev bufTy : (tb : Table) → Fin (tcTables nBuf tb) → BufTy
  | .hbm, ⟨0, _⟩ => ⟨S1792x14336, .i8⟩
  | .hbm, ⟨1, _⟩ => ⟨S28x14336, .bf16⟩
  | .hbm, ⟨2, _⟩ => ⟨S16, .bf16⟩
  | .hbm, ⟨3, _⟩ => ⟨S2, .i32⟩
  | .hbm, ⟨4, _⟩ => ⟨S2x1x1, .i32⟩
  | .hbm, ⟨5, _⟩ => ⟨S1792x14336, .i32⟩
  | .hbm, ⟨6, _⟩ => ⟨S1x1792x14336, .i32⟩
  | .hbm, ⟨7, _⟩ => ⟨S2x1792x14336, .i32⟩
  | .hbm, ⟨8, _⟩ => ⟨S2x1792x14336, .i32⟩
  | .hbm, ⟨9, _⟩ => ⟨S2x1792x14336, .i32⟩
  | .hbm, ⟨10, _⟩ => ⟨S_, .i32⟩
  | .hbm, ⟨11, _⟩ => ⟨S2x1792x14336, .i32⟩
  | .hbm, ⟨12, _⟩ => ⟨S2x1792x14336, .i32⟩
  | .hbm, ⟨13, _⟩ => ⟨S_, .i32⟩
  | .hbm, ⟨14, _⟩ => ⟨S2x1792x14336, .i32⟩
  | .hbm, ⟨15, _⟩ => ⟨S2x1792x14336, .i32⟩
  | .hbm, ⟨16, _⟩ => ⟨S_, .i32⟩
  | .hbm, ⟨17, _⟩ => ⟨S2x1792x14336, .i32⟩
  | .hbm, ⟨18, _⟩ => ⟨S2x1792x14336, .i1⟩
  | .hbm, ⟨19, _⟩ => ⟨S_, .i32⟩
  | .hbm, ⟨20, _⟩ => ⟨S2x1792x14336, .i32⟩
  | .hbm, ⟨21, _⟩ => ⟨S2x1792x14336, .i32⟩
  | .hbm, ⟨22, _⟩ => ⟨S_, .i32⟩
  | .hbm, ⟨23, _⟩ => ⟨S2x1792x14336, .i32⟩
  | .hbm, ⟨24, _⟩ => ⟨S2x1792x14336, .i1⟩
  | .hbm, ⟨25, _⟩ => ⟨S_, .i32⟩
  | .hbm, ⟨26, _⟩ => ⟨S2x1792x14336, .i32⟩
  | .hbm, ⟨27, _⟩ => ⟨S2x1792x14336, .i32⟩
  | .hbm, ⟨28, _⟩ => ⟨S_, .i32⟩
  | .hbm, ⟨29, _⟩ => ⟨S2x1792x14336, .i32⟩
  | .hbm, ⟨30, _⟩ => ⟨S2x1792x14336, .i1⟩
  | .hbm, ⟨31, _⟩ => ⟨S_, .i32⟩
  | .hbm, ⟨32, _⟩ => ⟨S2x1792x14336, .i32⟩
  | .hbm, ⟨33, _⟩ => ⟨S2x1792x14336, .i32⟩
  | .hbm, ⟨34, _⟩ => ⟨S_, .i32⟩
  | .hbm, ⟨35, _⟩ => ⟨S2x1792x14336, .i32⟩
  | .hbm, ⟨36, _⟩ => ⟨S2x1792x14336, .i1⟩
  | .hbm, ⟨37, _⟩ => ⟨S1, .bf16⟩
  | .hbm, ⟨38, _⟩ => ⟨S_, .bf16⟩
  | .hbm, ⟨39, _⟩ => ⟨S1, .bf16⟩
  | .hbm, ⟨40, _⟩ => ⟨S_, .bf16⟩
  | .hbm, ⟨41, _⟩ => ⟨S2x1792x14336, .bf16⟩
  | .hbm, ⟨42, _⟩ => ⟨S2x1792x14336, .bf16⟩
  | .hbm, ⟨43, _⟩ => ⟨S2x1792x14336, .bf16⟩
  | .hbm, ⟨44, _⟩ => ⟨S1, .bf16⟩
  | .hbm, ⟨45, _⟩ => ⟨S_, .bf16⟩
  | .hbm, ⟨46, _⟩ => ⟨S1, .bf16⟩
  | .hbm, ⟨47, _⟩ => ⟨S_, .bf16⟩
  | .hbm, ⟨48, _⟩ => ⟨S2x1792x14336, .bf16⟩
  | .hbm, ⟨49, _⟩ => ⟨S2x1792x14336, .bf16⟩
  | .hbm, ⟨50, _⟩ => ⟨S2x1792x14336, .bf16⟩
  | .hbm, ⟨51, _⟩ => ⟨S1, .bf16⟩
  | .hbm, ⟨52, _⟩ => ⟨S_, .bf16⟩
  | .hbm, ⟨53, _⟩ => ⟨S1, .bf16⟩
  | .hbm, ⟨54, _⟩ => ⟨S_, .bf16⟩
  | .hbm, ⟨55, _⟩ => ⟨S2x1792x14336, .bf16⟩
  | .hbm, ⟨56, _⟩ => ⟨S2x1792x14336, .bf16⟩
  | .hbm, ⟨57, _⟩ => ⟨S2x1792x14336, .bf16⟩
  | .hbm, ⟨58, _⟩ => ⟨S1, .bf16⟩
  | .hbm, ⟨59, _⟩ => ⟨S_, .bf16⟩
  | .hbm, ⟨60, _⟩ => ⟨S1, .bf16⟩
  | .hbm, ⟨61, _⟩ => ⟨S_, .bf16⟩
  | .hbm, ⟨62, _⟩ => ⟨S2x1792x14336, .bf16⟩
  | .hbm, ⟨63, _⟩ => ⟨S2x1792x14336, .bf16⟩
  | .hbm, ⟨64, _⟩ => ⟨S2x1792x14336, .bf16⟩
  | .hbm, ⟨65, _⟩ => ⟨S1, .bf16⟩
  | .hbm, ⟨66, _⟩ => ⟨S_, .bf16⟩
  | .hbm, ⟨67, _⟩ => ⟨S1, .bf16⟩
  | .hbm, ⟨68, _⟩ => ⟨S_, .bf16⟩
  | .hbm, ⟨69, _⟩ => ⟨S2x1792x14336, .bf16⟩
  | .hbm, ⟨70, _⟩ => ⟨S2x1792x14336, .bf16⟩
  | .hbm, ⟨71, _⟩ => ⟨S2x1792x14336, .bf16⟩
  | .hbm, ⟨72, _⟩ => ⟨S1, .bf16⟩
  | .hbm, ⟨73, _⟩ => ⟨S_, .bf16⟩
  | .hbm, ⟨74, _⟩ => ⟨S1, .bf16⟩
  | .hbm, ⟨75, _⟩ => ⟨S_, .bf16⟩
  | .hbm, ⟨76, _⟩ => ⟨S2x1792x14336, .bf16⟩
  | .hbm, ⟨77, _⟩ => ⟨S2x1792x14336, .bf16⟩
  | .hbm, ⟨78, _⟩ => ⟨S2x1792x14336, .bf16⟩
  | .hbm, ⟨79, _⟩ => ⟨S1, .bf16⟩
  | .hbm, ⟨80, _⟩ => ⟨S_, .bf16⟩
  | .hbm, ⟨81, _⟩ => ⟨S1, .bf16⟩
  | .hbm, ⟨82, _⟩ => ⟨S_, .bf16⟩
  | .hbm, ⟨83, _⟩ => ⟨S2x1792x14336, .bf16⟩
  | .hbm, ⟨84, _⟩ => ⟨S2x1792x14336, .bf16⟩
  | .hbm, ⟨85, _⟩ => ⟨S2x1792x14336, .bf16⟩
  | .hbm, ⟨86, _⟩ => ⟨S1, .bf16⟩
  | .hbm, ⟨87, _⟩ => ⟨S_, .bf16⟩
  | .hbm, ⟨88, _⟩ => ⟨S1, .bf16⟩
  | .hbm, ⟨89, _⟩ => ⟨S_, .bf16⟩
  | .hbm, ⟨90, _⟩ => ⟨S2x1792x14336, .bf16⟩
  | .hbm, ⟨91, _⟩ => ⟨S2x1792x14336, .bf16⟩
  | .hbm, ⟨92, _⟩ => ⟨S2x1792x14336, .bf16⟩
  | .hbm, ⟨93, _⟩ => ⟨S2x1792x14336, .bf16⟩
  | .hbm, ⟨94, _⟩ => ⟨S2x1792x14336, .bf16⟩
  | .hbm, ⟨95, _⟩ => ⟨S2x1792x14336, .bf16⟩
  | .hbm, ⟨96, _⟩ => ⟨S2x1792x14336, .bf16⟩
  | .hbm, ⟨97, _⟩ => ⟨S2x1792x14336, .bf16⟩
  | .hbm, ⟨98, _⟩ => ⟨S2x1792x14336, .bf16⟩
  | .hbm, ⟨99, _⟩ => ⟨S2x1792x14336, .bf16⟩
  | .hbm, ⟨100, _⟩ => ⟨S28x128x14336, .bf16⟩
  | .hbm, ⟨101, _⟩ => ⟨S28x1x14336, .bf16⟩
  | .hbm, ⟨102, _⟩ => ⟨S28x128x14336, .bf16⟩
  | .hbm, ⟨103, _⟩ => ⟨S28x128x14336, .bf16⟩
  | .hbm, ⟨104, _⟩ => ⟨S3584x14336, .bf16⟩
  | _, _ => ⟨S1792x14336, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_v18 : Ref sig .tc := ⟨.hbm, 29, rfl⟩
abbrev main_v19 : Ref sig .tc := ⟨.hbm, 30, rfl⟩
abbrev main_c_7 : Ref sig .tc := ⟨.hbm, 31, rfl⟩
abbrev main_v20 : Ref sig .tc := ⟨.hbm, 32, rfl⟩
abbrev main_v21 : Ref sig .tc := ⟨.hbm, 33, rfl⟩
abbrev main_c_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_v0 : Ref sig .tc := ⟨.hbm, 48, rfl⟩
abbrev main_call1_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call2_v0 : Ref sig .tc := ⟨.hbm, 55, rfl⟩
abbrev main_call2_v1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call3_v0 : Ref sig .tc := ⟨.hbm, 62, rfl⟩
abbrev main_call3_v1 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call4_v0 : Ref sig .tc := ⟨.hbm, 69, rfl⟩
abbrev main_call4_v1 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call5_v0 : Ref sig .tc := ⟨.hbm, 76, rfl⟩
abbrev main_call5_v1 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call6_v0 : Ref sig .tc := ⟨.hbm, 83, rfl⟩
abbrev main_call6_v1 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call7_v0 : Ref sig .tc := ⟨.hbm, 90, rfl⟩
abbrev main_call7_v1 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Proof.Code.lean ====
/- The two 4-bit codes packed in one byte, read out of it the two ways the kernel reads them. -/
module

public import Idealize.ShloMosaic.Lib.PointwiseCore

@[expose] public section

noncomputable section

namespace Cert.Nf4

open Idealize.ShloMosaic

/-- Code number `h` of a packed byte: `h = 0` is its low half, `h = 1` its high half. -/
def code (h : Nat) (b : BitVec 8) : Fin 16 := ⟨b.toNat / 16 ^ h % 16, Nat.mod_lt _ (by decide)⟩

/-- The low code is what masking the widened byte with 15 leaves. -/
theorem andi_toNat (b : BitVec 8) : (IntOp.andi (b.setWidth 32) 15#32).toNat % 16 = (code 0 b).val := by
  have hb := b.isLt
  have e : (IntOp.andi (b.setWidth 32) 15#32).toNat = b.toNat % 16 := by
    show (b.setWidth 32 &&& 15#32).toNat = _
    rw [BitVec.toNat_and, BitVec.toNat_setWidth, Nat.mod_eq_of_lt (by omega)]
    exact Nat.and_two_pow_sub_one_eq_mod b.toNat 4
  rw [e]; simp [code]

/-- The high code is what shifting the widened byte right by 4 leaves; the widened byte is not negative, so the
    arithmetic shift brings in zeros. -/
theorem shrsi_toNat (b : BitVec 8) : (IntOp.shrsi .vector (b.setWidth 32) 4#32).toNat % 16 = (code 1 b).val := by
  have hb := b.isLt
  have hm : (b.setWidth 32).msb = false := by
    rw [BitVec.msb_eq_false_iff_two_mul_lt, BitVec.toNat_setWidth, Nat.mod_eq_of_lt (by omega)]; omega
  have e : (IntOp.shrsi .vector (b.setWidth 32) 4#32).toNat = b.toNat / 16 := by
    unfold IntOp.shrsi
    rw [if_pos (by decide)]
    show ((b.setWidth 32).sshiftRight 4).toNat = _
    rw [BitVec.sshiftRight_eq_of_msb_false hm, BitVec.toNat_ushiftRight, BitVec.toNat_setWidth,
      Nat.mod_eq_of_lt (by omega), Nat.shiftRight_eq_div_pow]
  rw [e]; simp [code]

/-- Either code is what shifting the widened byte right by 0 or by 4, then masking it with 15, leaves. -/
theorem shrui_andi (b : BitVec 8) (h : Fin 2) :
    IntOp.andi (IntOp.shrui .host (b.setWidth 32) (BitVec.ofNat 32 (4 * h.val))) 15#32
      = BitVec.ofNat 32 (code h.val b).val := by
  have hb := b.isLt
  have hh : (BitVec.ofNat 32 (4 * h.val)).toNat = 4 * h.val := by
    rw [BitVec.toNat_ofNat]; omega
  unfold IntOp.shrui
  rw [if_pos (by omega)]
  apply BitVec.eq_of_toNat_eq
  have hc : (BitVec.ofNat 32 (code h.val b).val).toNat = b.toNat / 16 ^ h.val % 16 := by
    rw [BitVec.toNat_ofNat]; exact Nat.mod_eq_of_lt (by have := (code h.val b).isLt; omega)
  show ((b.setWidth 32) >>> (BitVec.ofNat 32 (4 * h.val)) &&& 15#32).toNat = _
  rw [hc, BitVec.toNat_and, BitVec.ushiftRight_eq', BitVec.toNat_ushiftRight, hh, BitVec.toNat_setWidth, Nat.mod_eq_of_lt (by omega), Nat.shiftRight_eq_div_pow, Nat.pow_mul]
  exact Nat.and_two_pow_sub_one_eq_mod _ 4

/-- The weight matrix a packed matrix stands for: row `r` of 3584 is unpacked from row `r % 1792` of the packed bytes, its
    low codes if `r < 1792` and its high codes otherwise; the code's level times the scale of the row's group of 128. -/
def dequant {F : FTy → Type} [FloatOps F] (w : Vec F (⟨2, ![1792, 14336]⟩ : Shape) .i8)
    (s : Vec F (⟨2, ![28, 14336]⟩ : Shape) .bf16) (t : Vec F (⟨1, ![16]⟩ : Shape) .bf16) :
    Vec F (⟨2, ![3584, 14336]⟩ : Shape) .bf16 := fun i =>
  FloatOps.mulf (t (ix1 (code ((i 0).val / 1792)
      (w (ix2 (n0 := 1792) (n1 := 14336) ⟨(i 0).val % 1792, Nat.mod_lt _ (by decide)⟩ (i 1))))))
    (s (ix2 (n0 := 28) (n1 := 14336) ⟨(i 0).val / 128, by
      have h : (i 0).val < 3584 := (i 0).isLt
      omega⟩ (i 1)))

/-- `dequant` at row `r` and column `l`, its half `h`, its packed row `p` and its group `g` named. -/
theorem dequant_apply {F : FTy → Type} [FloatOps F] (w : Vec F (⟨2, ![1792, 14336]⟩ : Shape) .i8)
    (s : Vec F (⟨2, ![28, 14336]⟩ : Shape) .bf16) (t : Vec F (⟨1, ![16]⟩ : Shape) .bf16) (r : Fin 3584) (l : Fin 14336)
    (h : Nat) (p : Fin 1792) (g : Fin 28) (hh : h = r.val / 1792) (hp : p.val = r.val % 1792) (hg : g.val = r.val / 128) :
    dequant w s t (ix2 (n0 := 3584) (n1 := 14336) r l)
      = FloatOps.mulf (t (ix1 (code h (w (ix2 (n0 := 1792) (n1 := 14336) p l)))))
          (s (ix2 (n0 := 28) (n1 := 14336) g l)) := by
  subst hh
  obtain rfl : p = ⟨r.val % 1792, Nat.mod_lt _ (by decide)⟩ := Fin.ext hp
  have hlt : r.val / 128 < 28 := Nat.div_lt_of_lt_mul r.isLt
  obtain rfl : g = ⟨r.val / 128, hlt⟩ := Fin.ext hg
  rfl

end Cert.Nf4

end
-- ==== Proof.Tile.lean ====
/- What one tile of a grid point holds: 16 rows and 128 columns of weights gathered from the scaled table of levels. -/
module

public import proofs.«01_k».proof.Proof.Gen.KernelIdeal
public import proofs.«01_k».proof.Proof.Code
public import Idealize.ShloMosaic.Lib.Pipeline.Value

@[expose] public section

noncomputable section

namespace Cert.KernelIdeal.Weights

open Cert.KernelIdeal Cert.KernelIdeal.Gen Idealize.ShloMosaic Cert.Nf4

variable {F : FTy → Type} [FloatOps F]

/-- The block of weights: at half `h`, row `r`, column `l`, the level which code `h` of byte `(r, l)` names, times the
    scale of that half and column. The table is stored 128 columns wide, and column `l` reads it at `l % 128`. -/
def block (x0 : Vec F S128x1024 .i8) (x1 x2 : Vec F S1x1x1024 .bf16) (x3 : Vec F S16x128 .bf16) :
    Vec F S2x128x1024 .bf16 := fun i =>
  FloatOps.mulf (x3 (ix2 (n0 := 16) (n1 := 128) (code (i 0).val (x0 (ix2 (n0 := 128) (n1 := 1024) (i 1) (i 2))))
      ⟨(i 2).val % 128, Nat.mod_lt _ (by decide)⟩))
    ((if (i 0).val = 0 then x1 else x2) (ix3 (n0 := 1) (n1 := 1) (n2 := 1024) 0 0 (i 2)))

/-- The table of levels, each row scaled column by column, as the kernel builds it for columns `c` to `c + 127`. -/
abbrev scaled (x3 : Vec F S16x128 .bf16) (x : Vec F S1x1x1024 .bf16) (c : Nat)
    (hx : ∀ a, (![0, 0, c] : Fin 3 → Nat) a + S1x1x128.size a ≤ S1x1x1024.size a)
    (h3 : ∀ a, (![0, 0] : Fin 2 → Nat) a + S16x128.size a ≤ S16x128.size a) : FVec F S16x128 .bf16 :=
  mulf (shapeCast S16x128 (View.ld x3 (Rect.unit (s := S16x128) ![0, 0] S16x128.size h3)) shapeCasts_S16x128_S16x128)
    (broadcastTo S16x128 (shapeCast S1x128 (View.ld x (Rect.unit (s := S1x1x1024) ![0, 0, c] S1x1x128.size hx))
      shapeCasts_S1x1x128_S1x128) broadcasts_S1x128_S16x128)

/-- Sixteen rows of packed bytes widened to 32-bit words, from row `r + s` and column `c` on. -/
abbrev bytes (x0 : Vec F S128x1024 .i8) (r s c : Nat)
    (h0 : ∀ a, (![r, c] : Fin 2 → Nat) a + S32x128.size a ≤ S128x1024.size a)
    (hs : S32x128.Slices ![s, 0] S16x128) : IVec S16x128 32 :=
  extractStridedSlice (s := S32x128) S16x128 ![s, 0]
    (extui (s := S32x128) 32 (View.ld x0 (Rect.unit (s := S128x1024) ![r, c] S32x128.size h0)) natLt_8_32) hs

/-- The tile gathered from a table `T` by a grid of index words, as it is stored. -/
abbrev gathered (T : FVec F S16x128 .bf16) (idx : IVec S16x128 32) : FVec F S1x16x128 .bf16 :=
  shapeCast S1x16x128 (dynamicGather 0 T
      (shapeCast S16x128 (shapeCast S16x128x1 idx shapeCasts_S16x128_S16x128x1) shapeCasts_S16x128x1_S16x128))
    shapeCasts_S16x128_S1x16x128

/-- The scaled table at level `k` and column `l`. -/
theorem scaled_apply (x3 : Vec F S16x128 .bf16) (x : Vec F S1x1x1024 .bf16) (c : Nat) (hx) (h3)
    (k : Fin 16) (l : Fin 128) (l' : Fin 1024) (hl : l'.val = c + l.val) :
    scaled x3 x c hx h3 (ix2 (n0 := 16) (n1 := 128) k l)
      = FloatOps.mulf (x3 (ix2 (n0 := 16) (n1 := 128) k l)) (x (ix3 (n0 := 1) (n1 := 1) (n2 := 1024) 0 0 l')) := by
  unfold scaled
  rw [mulf_apply, View.ld_unit_zero (by funext a; fin_cases a <;> rfl)]
  congr 1
  · exact congrFun (shapeCast_self x3 _) _
  rw [broadcastTo_apply _ _ _ (ix2 (n0 := 1) (n1 := 128) 0 l) (by intro a; fin_cases a <;> rfl)]
  rw [shapeCast_apply _ _ _ (ix3 (n0 := 1) (n1 := 1) (n2 := 128) 0 0 l) (by
    simp [Shape.rowMajor_val_two, Shape.rowMajor_val_three])]
  refine congrArg x (funext fun a => Fin.ext ?_)
  match a with
  | ⟨0, _⟩ => rfl
  | ⟨1, _⟩ => rfl
  | ⟨2, _⟩ => show c + 1 * l.val = l'.val; omega

/-- The widened byte at row `r + s + i`, column `c + l`. -/
theorem bytes_apply (x0 : Vec F S128x1024 .i8) (r s c : Nat) (h0) (hs) (i : Fin 16) (l : Fin 128)
    (i' : Fin 128) (l' : Fin 1024) (hi : i'.val = r + s + i.val) (hl : l'.val = c + l.val) :
    bytes x0 r s c h0 hs (ix2 (n0 := 16) (n1 := 128) i l)
      = (x0 (ix2 (n0 := 128) (n1 := 1024) i' l')).setWidth 32 := by
  unfold bytes
  show BitVec.setWidth 32 (x0 _) = _
  refine congrArg (fun b => BitVec.setWidth 32 (x0 b)) (funext fun a => Fin.ext ?_)
  match a with
  | ⟨0, _⟩ => show r + 1 * (s + i.val) = i'.val; omega
  | ⟨1, _⟩ => show c + 1 * (0 + l.val) = l'.val; omega

/-- A gathered tile at an index: the table at the index word's value, in the same column. -/
theorem gathered_apply (T : FVec F S16x128 .bf16) (idx : IVec S16x128 32) (j : S1x16x128.Idx) :
    gathered T idx j = T (ix2 (n0 := 16) (n1 := 128)
      ⟨(idx (ix2 (n0 := 16) (n1 := 128) (j 1) (j 2))).toNat % 16, Nat.mod_lt _ (by decide)⟩ (j 2)) := by
  unfold gathered
  rw [shapeCast_shapeCast]
  have hj : ((S16x128).rowMajor (ix2 (n0 := 16) (n1 := 128) (j 1) (j 2))).val = (S1x16x128.rowMajor j).val := by
    have h0 : (j 0).val < 1 := (j 0).isLt
    rw [Shape.rowMajor_val_two, Shape.rowMajor_val_three]
    show (j 1).val * 128 + (j 2).val = ((j 0).val * 16 + (j 1).val) * 128 + (j 2).val
    omega
  rw [shapeCast_apply _ _ j _ hj, dynamicGather_apply]
  refine congrArg T (funext fun a => Fin.ext ?_)
  match a with
  | ⟨0, _⟩ => rfl
  | ⟨1, _⟩ => rfl

/-- The tile of low codes: gathered from the table scaled by the first half's scales at the bytes masked with 15, it is
    the part of the block its rectangle names. -/
theorem low_tile (x0 : Vec F S128x1024 .i8) (x1 x2 : Vec F S1x1x1024 .bf16) (x3 : Vec F S16x128 .bf16)
    (r s c : Nat) (hx) (h3) (h0) (hs) (o : Nat)
    (hb : ∀ a, (![0, o, c] : Fin 3 → Nat) a + S1x16x128.size a ≤ S2x128x1024.size a) (ho : o = r + s)
    (hc : c % 128 = 0) (j : S1x16x128.Idx) :
    gathered (scaled x3 x1 c hx h3) (andi (bytes x0 r s c h0 hs) (broadcast S16x128 15#32)) j
      = block x0 x1 x2 x3 ((Rect.unit (s := S2x128x1024) ![0, o, c] S1x16x128.size hb).emb j) := by
  subst ho
  have j0 : (j 0).val < 1 := (j 0).isLt
  have j1 : (j 1).val < 16 := (j 1).isLt
  have j2 : (j 2).val < 128 := (j 2).isLt
  have b1 : r + s + 16 ≤ 128 := hb 1
  have b2 : c + 128 ≤ 1024 := hb 2
  generalize hi : (Rect.unit (s := S2x128x1024) ![0, r + s, c] S1x16x128.size hb).emb j = i
  have i0 : (i 0).val = 0 := by rw [← hi]; show 0 + 1 * (j 0).val = 0; omega
  have i1 : (i 1).val = r + s + (j 1).val := by rw [← hi]; show r + s + 1 * (j 1).val = _; omega
  have i2 : (i 2).val = c + (j 2).val := by rw [← hi]; show c + 1 * (j 2).val = _; omega
  rw [gathered_apply, scaled_apply x3 x1 c hx h3 _ _ (i 2) i2]
  unfold block
  rw [if_pos i0]
  congr 1
  refine congrArg x3 (funext fun a => Fin.ext ?_)
  match a with
  | ⟨0, _⟩ =>
    show (IntOp.andi (bytes x0 r s c h0 hs (ix2 (n0 := 16) (n1 := 128) (j 1) (j 2))) 15#32).toNat % 16 = _
    rw [bytes_apply x0 r s c h0 hs (j 1) (j 2) (i 1) (i 2) i1 i2, andi_toNat]
    show _ = (code (i 0).val _).val
    rw [i0]
  | ⟨1, _⟩ => show (j 2).val = (i 2).val % 128; omega

/-- The tile of high codes: gathered from the table scaled by the second half's scales at the bytes shifted right by 4,
    it is the part of the block its rectangle names. -/
theorem high_tile (x0 : Vec F S128x1024 .i8) (x1 x2 : Vec F S1x1x1024 .bf16) (x3 : Vec F S16x128 .bf16)
    (r s c : Nat) (hx) (h3) (h0) (hs) (o : Nat)
    (hb : ∀ a, (![1, o, c] : Fin 3 → Nat) a + S1x16x128.size a ≤ S2x128x1024.size a) (ho : o = r + s)
    (hc : c % 128 = 0) (j : S1x16x128.Idx) :
    gathered (scaled x3 x2 c hx h3) (shrsi (bytes x0 r s c h0 hs) (broadcast S16x128 4#32)) j
      = block x0 x1 x2 x3 ((Rect.unit (s := S2x128x1024) ![1, o, c] S1x16x128.size hb).emb j) := by
  subst ho
  have j0 : (j 0).val < 1 := (j 0).isLt
  have j1 : (j 1).val < 16 := (j 1).isLt
  have j2 : (j 2).val < 128 := (j 2).isLt
  have b1 : r + s + 16 ≤ 128 := hb 1
  have b2 : c + 128 ≤ 1024 := hb 2
  generalize hi : (Rect.unit (s := S2x128x1024) ![1, r + s, c] S1x16x128.size hb).emb j = i
  have i0 : (i 0).val = 1 := by rw [← hi]; show 1 + 1 * (j 0).val = 1; omega
  have i1 : (i 1).val = r + s + (j 1).val := by rw [← hi]; show r + s + 1 * (j 1).val = _; omega
  have i2 : (i 2).val = c + (j 2).val := by rw [← hi]; show c + 1 * (j 2).val = _; omega
  rw [gathered_apply, scaled_apply x3 x2 c hx h3 _ _ (i 2) i2]
  unfold block
  rw [if_neg (by omega)]
  congr 1
  refine congrArg x3 (funext fun a => Fin.ext ?_)
  match a with
  | ⟨0, _⟩ =>
    show (IntOp.shrsi .vector (bytes x0 r s c h0 hs (ix2 (n0 := 16) (n1 := 128) (j 1) (j 2))) 4#32).toNat % 16 = _
    rw [bytes_apply x0 r s c h0 hs (j 1) (j 2) (i 1) (i 2) i1 i2, shrsi_toNat]
    show _ = (code (i 0).val _).val
    rw [i0]
  | ⟨1, _⟩ => show (j 2).val = (i 2).val % 128; omega

end Cert.KernelIdeal.Weights

end
-- ==== Proof.Block.lean ====
/- What one grid point stores: the 128 tiles its body writes are the 128 parts of one block of weights. -/
module

public import proofs.«01_k».proof.Proof.Gen.KernelIdeal.Frame
public import proofs.«01_k».proof.Proof.Tile

@[expose] public section

noncomputable section

namespace Cert.KernelIdeal.Weights

open Cert.KernelIdeal Cert.KernelIdeal.Gen Idealize.ShloMosaic Cert.Nf4

variable {F : FTy → Type} [FloatOps F]

set_option maxHeartbeats 1000000 in
/-- The body leaves the block of weights: each of its stores is the tile of low codes or the tile of high codes at its
    own rectangle, and the rectangles cover the staging buffer. -/
theorem out_eq (x0 : Vec F S128x1024 .i8) (x1 x2 : Vec F S1x1x1024 .bf16) (x3 : Vec F S16x128 .bf16) :
    out0_4 x0 x1 x2 x3 = block x0 x1 x2 x3 := by
  funext y
  unfold out0_4
  refine View.canon_apply_of_pieces (block x0 x1 x2 x3) _ ?_ y (cover0_4 (y := y) ..)
  iterate 64
    refine List.forall_mem_cons.2 ⟨high_tile x0 x1 x2 x3 _ _ _ (by decide) (by decide) (by decide) (by decide) _
        (by decide) rfl rfl, List.forall_mem_cons.2 ⟨low_tile x0 x1 x2 x3 _ _ _ (by decide) (by decide) (by decide)
        (by decide) _ (by decide) rfl rfl, ?_⟩⟩
  exact fun _ h => absurd h List.not_mem_nil

end Cert.KernelIdeal.Weights

end
-- ==== Proof.Array.lean ====
/- What the kernel's result array holds: block by block the 196 grid points write the whole weight matrix, and the
   reshape after the region lays its two halves one under the other. -/
module

public import proofs.«01_k».proof.Proof.Block

@[expose] public section

noncomputable section

namespace Cert.KernelIdeal.Weights

open Cert.KernelIdeal Cert.KernelIdeal.Gen Idealize.ShloMosaic Idealize.ShloMosaic.TcCoe Idealize.SL.Sem Cert.Nf4

variable {F : FTy → Type} [FloatOps F]
variable (m : (ℓ : Loc nD τ sig) → Buf (Elt F) ℓ) (ρ : Dev nD → PrngReg)

/-- The weight matrix device `c`'s arguments stand for. -/
abbrev weights (c : Dev nD) : Vec F S3584x14336 .bf16 :=
  dequant (m ((c : Thread nD τ).loc main_arg0)) (m ((c : Thread nD τ).loc main_arg1)) (m ((c : Thread nD τ).loc main_arg2))

/-- The same matrix with its two halves of 1792 rows stacked along a leading axis, as the region writes it. -/
def halves (c : Dev nD) : Vec F S2x1792x14336 .bf16 := fun i =>
  weights m c (ix2 (n0 := 3584) (n1 := 14336) ⟨(i 0).val * 1792 + (i 1).val, by
    have h0 : (i 0).val < 2 := (i 0).isLt
    have h1 : (i 1).val < 1792 := (i 1).isLt
    omega⟩ (i 2))

/-- The region finds the table of levels spread over 128 columns. -/
theorem V_table (c : Dev nD) (k : Fin 16) (l : Fin 128) :
    V m c main_v1 (ix2 (n0 := 16) (n1 := 128) k l) = m ((c : Thread nD τ).loc main_arg2) (ix1 k) := by
  have e : V m c main_v1 = broadcastInDim S16x128 ![0, 1] bcast_S16x1_S16x128_0_1
      (broadcastInDim S16x1 ![0] bcast_S16_S16x1_0 (m ((c : Thread nD τ).loc main_arg2))) := by
    simp only [V, V0, List.flatten_cons, List.flatten_nil, List.append_nil]
    after_results
  rw [e, broadcastInDim_apply _ _ _ _ (ix2 (n0 := 16) (n1 := 1) k 0) (by intro a; fin_cases a <;> rfl),
    broadcastInDim_apply _ _ _ _ (ix1 k) (by intro a; fin_cases a; rfl)]

/-- The region finds the scales with a unit axis in the middle. -/
theorem V_scales (c : Dev nD) (g : Fin 28) (z : Fin 1) (l : Fin 14336) :
    V m c main_v2 (ix3 (n0 := 28) (n1 := 1) (n2 := 14336) g z l)
      = m ((c : Thread nD τ).loc main_arg1) (ix2 (n0 := 28) (n1 := 14336) g l) := by
  have e : V m c main_v2 = broadcastInDim S28x1x14336 ![0, 2] bcast_S28x14336_S28x1x14336_0_2
      (m ((c : Thread nD τ).loc main_arg1)) := by
    simp only [V, V0, List.flatten_cons, List.flatten_nil, List.append_nil]
    after_results
  rw [e, broadcastInDim_apply _ _ _ _ (ix2 (n0 := 28) (n1 := 14336) g l) (by intro a; fin_cases a <;> rfl)]

/-- Where each window's block lies at point `t`: row of blocks `t / 14`, column of blocks `t % 14`. -/
theorem origin : ∀ t : Fin grid0.N,
    (win0_0.index t 0 = t.val / 14 ∧ win0_0.index t 1 = t.val % 14)
    ∧ (win0_1.index t 0 = t.val / 14 ∧ win0_1.index t 1 = 0 ∧ win0_1.index t 2 = t.val % 14)
    ∧ (win0_2.index t 0 = t.val / 14 + 14 ∧ win0_2.index t 1 = 0 ∧ win0_2.index t 2 = t.val % 14)
    ∧ (win0_3.index t 0 = 0 ∧ win0_3.index t 1 = 0)
    ∧ (win0_4.index t 0 = 0 ∧ win0_4.index t 1 = t.val / 14 ∧ win0_4.index t 2 = t.val % 14) := by
  decide +kernel

/-- The block of packed bytes at point `t`, read out of the packed matrix. -/
theorem bytes_block (c : Dev nD) (t : Fin cfg0.N) (r : Fin 128) (l : Fin 1024) (r' : Fin 1792) (l' : Fin 14336)
    (hr : r'.val = t.val / 14 * 128 + r.val) (hl : l'.val = t.val % 14 * 1024 + l.val) :
    (iblk m c 0 t : Vec F S128x1024 .i8) (ix2 (n0 := 128) (n1 := 1024) r l)
      = m ((c : Thread nD τ).loc main_arg0) (ix2 (n0 := 1792) (n1 := 14336) r' l') := by
  have o := (origin t).1
  rw [← V_main_arg0 m c]
  unfold iblk
  show V m c main_arg0 ((win0_0.rect t).emb (ix2 (n0 := 128) (n1 := 1024) r l)) = _
  refine congrArg (V m c main_arg0) (funext fun a => Fin.ext ?_)
  rw [Pipeline.Window.rect_emb_val win0_0 t _ a rfl]
  match a with
  | ⟨0, _⟩ => show win0_0.index t 0 * 128 + r.val = r'.val; omega
  | ⟨1, _⟩ => show win0_0.index t 1 * 1024 + l.val = l'.val; omega

/-- The row of scales of the first half at point `t`: group `t / 14` of the 28. -/
theorem low_scales_block (c : Dev nD) (t : Fin cfg0.N) (l : Fin 1024) (g : Fin 28) (l' : Fin 14336)
    (hg : g.val = t.val / 14) (hl : l'.val = t.val % 14 * 1024 + l.val) :
    (iblk m c 1 t : Vec F S1x1x1024 .bf16) (ix3 (n0 := 1) (n1 := 1) (n2 := 1024) 0 0 l)
      = m ((c : Thread nD τ).loc main_arg1) (ix2 (n0 := 28) (n1 := 14336) g l') := by
  have o := (origin t).2.1
  rw [← V_scales m c g 0 l']
  unfold iblk
  show V m c main_v2 ((win0_1.rect t).emb (ix3 (n0 := 1) (n1 := 1) (n2 := 1024) 0 0 l)) = _
  refine congrArg (V m c main_v2) (funext fun a => Fin.ext ?_)
  rw [Pipeline.Window.rect_emb_val win0_1 t _ a rfl]
  match a with
  | ⟨0, _⟩ => show win0_1.index t 0 * 1 + 0 = g.val; omega
  | ⟨1, _⟩ => show win0_1.index t 1 * 1 + 0 = 0; omega
  | ⟨2, _⟩ => show win0_1.index t 2 * 1024 + l.val = l'.val; omega

/-- The row of scales of the second half at point `t`: group `t / 14 + 14` of the 28. -/
theorem high_scales_block (c : Dev nD) (t : Fin cfg0.N) (l : Fin 1024) (g : Fin 28) (l' : Fin 14336)
    (hg : g.val = t.val / 14 + 14) (hl : l'.val = t.val % 14 * 1024 + l.val) :
    (iblk m c 2 t : Vec F S1x1x1024 .bf16) (ix3 (n0 := 1) (n1 := 1) (n2 := 1024) 0 0 l)
      = m ((c : Thread nD τ).loc main_arg1) (ix2 (n0 := 28) (n1 := 14336) g l') := by
  have o := (origin t).2.2.1
  rw [← V_scales m c g 0 l']
  unfold iblk
  show V m c main_v2 ((win0_2.rect t).emb (ix3 (n0 := 1) (n1 := 1) (n2 := 1024) 0 0 l)) = _
  refine congrArg (V m c main_v2) (funext fun a => Fin.ext ?_)
  rw [Pipeline.Window.rect_emb_val win0_2 t _ a rfl]
  match a with
  | ⟨0, _⟩ => show win0_2.index t 0 * 1 + 0 = g.val; omega
  | ⟨1, _⟩ => show win0_2.index t 1 * 1 + 0 = 0; omega
  | ⟨2, _⟩ => show win0_2.index t 2 * 1024 + l.val = l'.val; omega

/-- The table at point `t`: the levels, the same in every column. -/
theorem table_block (c : Dev nD) (t : Fin cfg0.N) (k : Fin 16) (l : Fin 128) :
    (iblk m c 3 t : Vec F S16x128 .bf16) (ix2 (n0 := 16) (n1 := 128) k l)
      = m ((c : Thread nD τ).loc main_arg2) (ix1 k) := by
  have o := (origin t).2.2.2.1
  rw [← V_table m c k l]
  unfold iblk
  show V m c main_v1 ((win0_3.rect t).emb (ix2 (n0 := 16) (n1 := 128) k l)) = _
  refine congrArg (V m c main_v1) (funext fun a => Fin.ext ?_)
  rw [Pipeline.Window.rect_emb_val win0_3 t _ a rfl]
  match a with
  | ⟨0, _⟩ => show win0_3.index t 0 * 16 + k.val = k.val; omega
  | ⟨1, _⟩ => show win0_3.index t 1 * 128 + l.val = l.val; omega

/-- The block point `t` computes is the part of the weight matrix from row `t / 14 * 128` of both halves and column
    `t % 14 * 1024` on. -/
theorem block_eq (c : Dev nD) (t : Fin cfg0.N) (y : S2x128x1024.Idx) (i : S2x1792x14336.Idx)
    (h0 : (i 0).val = (y 0).val) (h1 : (i 1).val = t.val / 14 * 128 + (y 1).val)
    (h2 : (i 2).val = t.val % 14 * 1024 + (y 2).val) :
    block (iblk m c 0 t) (iblk m c 1 t) (iblk m c 2 t) (iblk m c 3 t) y = halves m c i := by
  have y0 : (y 0).val < 2 := (y 0).isLt
  have y1 : (y 1).val < 128 := (y 1).isLt
  have i1 : (i 1).val < 1792 := (i 1).isLt
  have ht : t.val < 196 := N_0 ▸ t.isLt
  unfold halves weights
  refine Eq.trans ?_ (dequant_apply _ _ _ _ _ (y 0).val (i 1) ⟨t.val / 14 + 14 * (y 0).val, by omega⟩
    (by show (y 0).val = ((i 0).val * 1792 + (i 1).val) / 1792; omega)
    (by show (i 1).val = ((i 0).val * 1792 + (i 1).val) % 1792; omega)
    (by show t.val / 14 + 14 * (y 0).val = ((i 0).val * 1792 + (i 1).val) / 128; omega)).symm
  unfold block
  rw [table_block, bytes_block m c t _ _ (i 1) (i 2) h1 h2]
  congr 1
  split
  · exact low_scales_block m c t (y 2) _ (i 2) (by show t.val / 14 + 14 * (y 0).val = t.val / 14; omega) h2
  · exact high_scales_block m c t (y 2) _ (i 2) (by show t.val / 14 + 14 * (y 0).val = t.val / 14 + 14; omega) h2

/-- Point `t` writes back its block of the weight matrix. -/
theorem flushed_eq (c : Dev nD) (t : Fin cfg0.N) :
    (dats m 0 c).flushed 4 t = (win0_4.blk t).view.read (Elt F) (halves m c) := by
  have o := (origin t).2.2.2.2
  show (cfg0.win 4).cut (grid0.coords t) ((dats m 0 c).after 4 t) = _
  rw [after0_4, out_eq]
  funext y
  show block (iblk m c 0 t) (iblk m c 1 t) (iblk m c 2 t) (iblk m c 3 t) y = halves m c ((win0_4.rect t).emb y)
  refine block_eq m c t y _ ?_ ?_ ?_
  · rw [Pipeline.Window.rect_emb_val win0_4 t y 0 rfl]; show win0_4.index t 0 * 2 + (y 0).val = (y 0).val; omega
  · rw [Pipeline.Window.rect_emb_val win0_4 t y 1 rfl]; show win0_4.index t 1 * 128 + (y 1).val = _; omega
  · rw [Pipeline.Window.rect_emb_val win0_4 t y 2 rfl]; show win0_4.index t 2 * 1024 + (y 2).val = _; omega

/-- An index of the result array is in point `t`'s block when its row and its column are. -/
theorem mem_blk (t : Fin cfg0.N) (i : S2x1792x14336.Idx) (h1 : (i 1).val / 128 = t.val / 14)
    (h2 : (i 2).val / 1024 = t.val % 14) : i ∈ ((cfg0.win 4).blk t).view.set := by
  have o := (origin t).2.2.2.2
  have i0 : (i 0).val < 2 := (i 0).isLt
  show i ∈ ((View.whole main_v3).slice (win0_4.rect t)).set
  rw [View.set_slice_whole, Rect.mem_set_unit]
  intro a
  match a with
  | ⟨0, _⟩ => show win0_4.index t 0 * 2 ≤ (i 0).val ∧ (i 0).val < win0_4.index t 0 * 2 + 2; omega
  | ⟨1, _⟩ => show win0_4.index t 1 * 128 ≤ (i 1).val ∧ (i 1).val < win0_4.index t 1 * 128 + 128; omega
  | ⟨2, _⟩ => show win0_4.index t 2 * 1024 ≤ (i 2).val ∧ (i 2).val < win0_4.index t 2 * 1024 + 1024; omega

/-- The blocks cover the result array: row `r`, column `l` is written at the point of its row and column of blocks. -/
theorem cover (i : S2x1792x14336.Idx) :
    ∃ t : Fin cfg0.N, (cfg0.win 4).flush t = true ∧ i ∈ ((cfg0.win 4).blk t).view.set := by
  have i1 : (i 1).val < 1792 := (i 1).isLt
  have i2 : (i 2).val < 14336 := (i 2).isLt
  have hN : cfg0.N = 196 := N_0
  refine ⟨⟨(i 1).val / 128 * 14 + (i 2).val / 1024, by omega⟩, flush0_4 _, mem_blk _ i ?_ ?_⟩
  · show (i 1).val / 128 = ((i 1).val / 128 * 14 + (i 2).val / 1024) / 14; omega
  · show (i 2).val / 1024 = ((i 1).val / 128 * 14 + (i 2).val / 1024) % 14; omega

/-- The region leaves its result array holding the two halves of the weight matrix. -/
theorem final_halves (c : Dev nD) : (dats m 0 c).arrAt 4 cfg0.N = halves m c :=
  (dats m 0 c).arrAt_eq_of_cover 4 (halves m c) (fun t _ => flushed_eq m c t) cover

/-- The reshape after the region reads the halves one under the other: the weight matrix. -/
theorem reshape_halves (c : Dev nD) :
    shapeCast S3584x14336 (halves m c) shapeCasts_S2x1792x14336_S3584x14336 = weights m c := by
  funext i
  have i0 : (i 0).val < 3584 := (i 0).isLt
  rw [shapeCast_apply _ _ i (ix3 (n0 := 2) (n1 := 1792) (n2 := 14336) ⟨(i 0).val / 1792, by omega⟩
    ⟨(i 0).val % 1792, Nat.mod_lt _ (by decide)⟩ (i 1)) (by
      rw [Shape.rowMajor_val_two, Shape.rowMajor_val_three]
      show ((i 0).val / 1792 * 1792 + (i 0).val % 1792) * 14336 + (i 1).val = (i 0).val * 14336 + (i 1).val
      omega)]
  unfold halves
  refine congrArg (weights m c) (funext fun a => Fin.ext ?_)
  match a with
  | ⟨0, _⟩ => show (i 0).val / 1792 * 1792 + (i 0).val % 1792 = (i 0).val; omega
  | ⟨1, _⟩ => rfl

/-- The lines after the region leave the weight matrix in the result buffer. -/
theorem final_weights (c : Dev nD) :
    Pipeline.afterTail₀ cfgs (dats m) 0 (V0 m) [hostOps1] c main_v4 = weights m c := by
  unfold Pipeline.afterTail₀
  simp only [hostOps1, List.flatten_cons, List.flatten_nil, List.append_nil]
  after_results
  refine Eq.trans ?_ (reshape_halves m c)
  refine congrArg (fun x => shapeCast S3584x14336 x shapeCasts_S2x1792x14336_S3584x14336) ?_
  exact ((dats m 0 c).withArrays_arrAt sharedIn0 (V0 m c) (A_eq m c) 4).trans (final_halves m c)

/-- The kernel's run: from any memory the result buffer ends holding the weight matrix and the arguments are unchanged. -/
theorem run : θ_run defs (onTc (τ := τ) (main (F := F))) ⟨m, fun _ => 0, ρ⟩ fun r => ∀ c : Dev nD,
      r.2.mem ((c : Thread nD τ).loc main_v4) = weights m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans (final_weights m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Weights

end
-- ==== Proof.Reference.lean ====
/- What the reference's result holds, index by index: its binary tree of selections on the four bits of a code picks the
   level the code names. -/
module

public import proofs.«01_k».proof.Proof.Gen.ReferenceIdeal.Run
public import proofs.«01_k».proof.Proof.Code
public import Idealize.ShloMosaic.Lib.Pipeline.Value

@[expose] public section

noncomputable section

namespace Cert.ReferenceIdeal.Weights

open Cert.ReferenceIdeal Cert.ReferenceIdeal.Gen Idealize.ShloMosaic Idealize.ShloMosaic.TcCoe Idealize.SL.Sem Cert.Nf4

variable {F : FTy → Type} [FloatOps F]

/-- One 32-bit word at every index. -/
abbrev splat (b : BitVec 32) : IVec S2x1792x14336 32 :=
  broadcastInDim S2x1792x14336 ![] bcast_S_S2x1792x14336 (constantI S_ 32 b)

/-- The shift of each half: 0 for the low codes, 4 for the high ones. -/
abbrev shifts : IVec S2x1792x14336 32 :=
  broadcastInDim S2x1792x14336 ![0, 1, 2] bcast_S2x1x1_S2x1792x14336_0_1_2
    (shapeCast S2x1x1 (fun i => lit0 (S2.rowMajor i)) shapeCasts_S2_S2x1x1)

/-- The codes, half by half: the widened bytes shifted and masked. -/
abbrev codes (w : Vec F S1792x14336 .i8) : IVec S2x1792x14336 32 :=
  andi (Host.shrui (broadcastInDim S2x1792x14336 ![0, 1, 2] bcast_S1x1792x14336_S2x1792x14336_0_1_2
    (broadcastInDim S1x1792x14336 ![1, 2] bcast_S1792x14336_S1x1792x14336_1_2 (extui 32 w natLt_8_32))) shifts) (splat 15#32)

/-- Whether the codes have the bit `b`. -/
abbrev bit (K : IVec S2x1792x14336 32) (b : BitVec 32) : IVec S2x1792x14336 1 :=
  cmpi .ne (andi K (splat b)) (splat 0#32)

/-- Level `k` of the table at every index. -/
abbrev level (t : Vec F S16 .bf16) (k : Nat) (h : S16.Slices ![k] S1) : Vec F S2x1792x14336 .bf16 :=
  broadcastInDim S2x1792x14336 ![] bcast_S_S2x1792x14336
    (shapeCast S_ (extractStridedSlice S1 ![k] t h) shapeCasts_S1_S_)

/-- The reference's tree of selections on the bits of the codes. -/
abbrev tree (K : IVec S2x1792x14336 32) (t : Vec F S16 .bf16) : Vec F S2x1792x14336 .bf16 :=
  select (bit K 8#32)
    (select (bit K 4#32)
      (select (bit K 2#32)
        (select (bit K 1#32) (level t 15 slices_S16_S1_15) (level t 14 slices_S16_S1_14))
        (select (bit K 1#32) (level t 13 slices_S16_S1_13) (level t 12 slices_S16_S1_12)))
      (select (bit K 2#32)
        (select (bit K 1#32) (level t 11 slices_S16_S1_11) (level t 10 slices_S16_S1_10))
        (select (bit K 1#32) (level t 9 slices_S16_S1_9) (level t 8 slices_S16_S1_8))))
    (select (bit K 4#32)
      (select (bit K 2#32)
        (select (bit K 1#32) (level t 7 slices_S16_S1_7) (level t 6 slices_S16_S1_6))
        (select (bit K 1#32) (level t 5 slices_S16_S1_5) (level t 4 slices_S16_S1_4)))
      (select (bit K 2#32)
        (select (bit K 1#32) (level t 3 slices_S16_S1_3) (level t 2 slices_S16_S1_2))
        (select (bit K 1#32) (level t 1 slices_S16_S1_1) (level t 0 slices_S16_S1_0))))

/-- The reference's composed term, by the names above. -/
theorem result_eq (m : (ℓ : Loc nD τ sig) → Buf (Elt F) ℓ) (c : Dev nD) :
    Value.res_out0 m c = shapeCast S3584x14336 (mulf
      (shapeCast S28x128x14336 (tree (codes (m ((c : Thread nD τ).loc main_arg0))) (m ((c : Thread nD τ).loc main_arg2)))
        shapeCasts_S2x1792x14336_S28x128x14336)
      (broadcastInDim S28x128x14336 ![0, 1, 2] bcast_S28x1x14336_S28x128x14336_0_1_2
        (broadcastInDim S28x1x14336 ![0, 2] bcast_S28x14336_S28x1x14336_0_2 (m ((c : Thread nD τ).loc main_arg1)))))
      shapeCasts_S28x128x14336_S3584x14336 := rfl

/-- Level `k` is the same at every index. -/
theorem level_apply (t : Vec F S16 .bf16) (k : Nat) (hk : k < 16) (h : S16.Slices ![k] S1) (i : S2x1792x14336.Idx) :
    level t k h i = t (ix1 ⟨k, hk⟩) := by
  unfold level
  rw [broadcastInDim_apply _ _ _ _ (fun a => a.elim0) (fun a => a.elim0),
    shapeCast_apply _ _ _ (ix1 (n0 := 1) 0) (by rfl)]
  exact extractStridedSlice_apply _ _ _ _ _ (by intro a; fin_cases a; rfl)

/-- The code word at an index is the code of that half of the byte there. -/
theorem codes_apply (w : Vec F S1792x14336 .i8) (h : Fin 2) (r : Fin 1792) (l : Fin 14336) :
    codes w (ix3 (n0 := 2) (n1 := 1792) (n2 := 14336) h r l)
      = BitVec.ofNat 32 (code h.val (w (ix2 (n0 := 1792) (n1 := 14336) r l))).val := by
  have e1 : broadcastInDim S2x1792x14336 ![0, 1, 2] bcast_S1x1792x14336_S2x1792x14336_0_1_2
      (broadcastInDim S1x1792x14336 ![1, 2] bcast_S1792x14336_S1x1792x14336_1_2 (extui 32 w natLt_8_32))
      (ix3 (n0 := 2) (n1 := 1792) (n2 := 14336) h r l)
      = (w (ix2 (n0 := 1792) (n1 := 14336) r l)).setWidth 32 := by
    rw [broadcastInDim_apply _ _ _ _ (ix3 (n0 := 1) (n1 := 1792) (n2 := 14336) 0 r l) (by intro a; fin_cases a <;> rfl),
      broadcastInDim_apply _ _ _ _ (ix2 (n0 := 1792) (n1 := 14336) r l) (by intro a; fin_cases a <;> rfl)]
    rfl
  have e2 : shifts (ix3 (n0 := 2) (n1 := 1792) (n2 := 14336) h r l) = BitVec.ofNat 32 (4 * h.val) := by
    unfold shifts
    rw [broadcastInDim_apply _ _ _ _ (ix3 (n0 := 2) (n1 := 1) (n2 := 1) h 0 0) (by intro a; fin_cases a <;> rfl),
      shapeCast_apply _ _ _ (ix1 (n0 := 2) h) (by
        rw [Shape.rowMajor_val_one, Shape.rowMajor_val_three]; show h.val = (h.val * 1 + 0) * 1 + 0; omega)]
    fin_cases h <;> rfl
  unfold codes
  show IntOp.andi (IntOp.shrui .host (broadcastInDim S2x1792x14336 ![0, 1, 2] bcast_S1x1792x14336_S2x1792x14336_0_1_2
      (broadcastInDim S1x1792x14336 ![1, 2] bcast_S1792x14336_S1x1792x14336_1_2 (extui 32 w natLt_8_32))
      (ix3 (n0 := 2) (n1 := 1792) (n2 := 14336) h r l)) (shifts (ix3 (n0 := 2) (n1 := 1792) (n2 := 14336) h r l))) 15#32 = _
  rw [e1, e2, shrui_andi]

/-- The same tree over scalars: four bits choose one of sixteen. -/
abbrev pick {α : Type} (b8 b4 b2 b1 : BitVec 1) (f : Fin 16 → α) : α :=
  Scalar.select b8
    (Scalar.select b4
      (Scalar.select b2 (Scalar.select b1 (f 15) (f 14)) (Scalar.select b1 (f 13) (f 12)))
      (Scalar.select b2 (Scalar.select b1 (f 11) (f 10)) (Scalar.select b1 (f 9) (f 8))))
    (Scalar.select b4
      (Scalar.select b2 (Scalar.select b1 (f 7) (f 6)) (Scalar.select b1 (f 5) (f 4)))
      (Scalar.select b2 (Scalar.select b1 (f 3) (f 2)) (Scalar.select b1 (f 1) (f 0))))

/-- The bits of `k` choose the `k`-th of sixteen. -/
theorem pick_bits {α : Type} (k : Fin 16) (f : Fin 16 → α) :
    pick (IntOp.cmpi .ne (IntOp.andi (BitVec.ofNat 32 k.val) 8#32) 0#32)
      (IntOp.cmpi .ne (IntOp.andi (BitVec.ofNat 32 k.val) 4#32) 0#32)
      (IntOp.cmpi .ne (IntOp.andi (BitVec.ofNat 32 k.val) 2#32) 0#32)
      (IntOp.cmpi .ne (IntOp.andi (BitVec.ofNat 32 k.val) 1#32) 0#32) f = f k := by
  fin_cases k <;> rfl

/-- Each of the sixteen levels is a slice of the table. -/
theorem slices (k : Fin 16) : S16.Slices ![k.val] S1 := by
  revert k; decide

/-- The tree of selections at an index where the code word is `k`: level `k`. -/
theorem tree_apply (K : IVec S2x1792x14336 32) (t : Vec F S16 .bf16) (i : S2x1792x14336.Idx) (k : Fin 16)
    (hK : K i = BitVec.ofNat 32 k.val) : tree K t i = t (ix1 k) := by
  have hb (b : BitVec 32) : bit K b i = IntOp.cmpi .ne (IntOp.andi (BitVec.ofNat 32 k.val) b) 0#32 := by
    rw [← hK]; rfl
  have ht : tree K t i = pick (bit K 8#32 i) (bit K 4#32 i) (bit K 2#32 i) (bit K 1#32 i)
      (fun k => level t k.val (slices k) i) := rfl
  rw [ht, hb, hb, hb, hb, pick_bits, level_apply t k.val k.isLt]

/-- The reference's result is the dequantised weight matrix of its arguments. -/
theorem res_eq (m : (ℓ : Loc nD τ sig) → Buf (Elt F) ℓ) (c : Dev nD) :
    Value.res_out0 m c = dequant (m ((c : Thread nD τ).loc main_arg0)) (m ((c : Thread nD τ).loc main_arg1))
      (m ((c : Thread nD τ).loc main_arg2)) := by
  rw [result_eq]
  funext i
  obtain ⟨r, l, rfl⟩ : ∃ (r : Fin 3584) (l : Fin 14336), i = ix2 (n0 := 3584) (n1 := 14336) r l :=
    ⟨i 0, i 1, by funext a; fin_cases a <;> rfl⟩
  have hr := r.isLt
  rw [shapeCast_apply _ _ _ (ix3 (n0 := 28) (n1 := 128) (n2 := 14336) ⟨r.val / 128, by omega⟩ ⟨r.val % 128, by omega⟩ l) (by
      rw [Shape.rowMajor_val_two, Shape.rowMajor_val_three]
      show (r.val / 128 * 128 + r.val % 128) * 14336 + l.val = r.val * 14336 + l.val
      omega),
    mulf_apply,
    shapeCast_apply _ _ _ (ix3 (n0 := 2) (n1 := 1792) (n2 := 14336) ⟨r.val / 1792, by omega⟩ ⟨r.val % 1792, by omega⟩ l) (by
      rw [Shape.rowMajor_val_three, Shape.rowMajor_val_three]
      show (r.val / 1792 * 1792 + r.val % 1792) * 14336 + l.val = (r.val / 128 * 128 + r.val % 128) * 14336 + l.val
      omega),
    tree_apply _ _ _ _ (codes_apply _ _ _ _),
    broadcastInDim_apply _ _ _ _ (ix3 (n0 := 28) (n1 := 1) (n2 := 14336) ⟨r.val / 128, by omega⟩ 0 l)
      (by intro a; fin_cases a <;> rfl),
    broadcastInDim_apply _ _ _ _ (ix2 (n0 := 28) (n1 := 14336) ⟨r.val / 128, by omega⟩ l)
      (by intro a; fin_cases a <;> rfl)]
  rfl

end Cert.ReferenceIdeal.Weights

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- `ReferenceIdeal` runs, its arguments end unchanged, and every semaphore counter ends at zero: it has no semaphores. -/
theorem frame_reference [Cert.ReferenceIdeal.Facts] : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- From memories agreeing on the arguments, the kernel and the reference end with the same weight matrix. -/
theorem algebraic [Cert.KernelIdeal.Facts] [Cert.ReferenceIdeal.Facts] : Cert.algebraic_KernelIdeal_ReferenceIdeal := by
  intro m g m' g' _ hagree
  refine ⟨fun c => Cert.KernelIdeal.Weights.weights m c, Cert.KernelIdeal.Weights.run (F := Ideal) m g, ?_⟩
  refine (θ_run (Cert.ReferenceIdeal.defs (F := Ideal)) _ _).mono (fun r h c => ⟨?_, (h c).2⟩)
    (Cert.ReferenceIdeal.Value.run (F := Ideal) m' g')
  refine ((h c).1.trans (Cert.ReferenceIdeal.Weights.res_eq m' c)).trans ?_
  obtain ⟨h0, h1, h2⟩ := hagree c
  exact congr (congr (congrArg Cert.Nf4.dequant h0) h1) h2

/-- Every claim: the three frames, the idealization's (which rewrote nothing), and the equation. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
